-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S320000x128 : Shape := ⟨2, ![320000, 128]⟩
abbrev S320000 : Shape := ⟨1, ![320000]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 64#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S320000x1 : Shape := ⟨2, ![320000, 1]⟩
abbrev S20x1x64 : Shape := ⟨3, ![20, 1, 64]⟩
abbrev S2x64 : Shape := ⟨2, ![2, 64]⟩
abbrev S1x64 : Shape := ⟨2, ![1, 64]⟩
abbrev S64 : Shape := ⟨1, ![64]⟩
abbrev S16000x128 : Shape := ⟨2, ![16000, 128]⟩
abbrev S16000x1 : Shape := ⟨2, ![16000, 1]⟩
abbrev S1x1x64 : Shape := ⟨3, ![1, 1, 64]⟩
abbrev S16000 : Shape := ⟨1, ![16000]⟩
abbrev S16000x64 : Shape := ⟨2, ![16000, 64]⟩
abbrev S8000x128 : Shape := ⟨2, ![8000, 128]⟩
abbrev S8000x1 : Shape := ⟨2, ![8000, 1]⟩
abbrev S8000x64 : Shape := ⟨2, ![8000, 64]⟩
abbrev S8000 : Shape := ⟨1, ![8000]⟩

abbrev nBuf : Space → Nat
  | .hbm => 8
  | .vmem => 15
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S320000x1, .i32⟩
  | .hbm, ⟨3, _⟩ => ⟨S20x1x64, .f32⟩
  | .hbm, ⟨4, _⟩ => ⟨S2x64, .f32⟩
  | .hbm, ⟨5, _⟩ => ⟨S320000x128, .f32⟩
  | .hbm, ⟨6, _⟩ => ⟨S1x64, .f32⟩
  | .hbm, ⟨7, _⟩ => ⟨S64, .f32⟩
  | .local _ .vmem, ⟨0, _⟩ => ⟨S16000x128, .f32⟩
  | .local _ .vmem, ⟨1, _⟩ => ⟨S16000x128, .f32⟩
  | .local _ .vmem, ⟨2, _⟩ => ⟨S16000x1, .i32⟩
  | .local _ .vmem, ⟨3, _⟩ => ⟨S16000x1, .i32⟩
  | .local _ .vmem, ⟨4, _⟩ => ⟨S1x1x64, .f32⟩
  | .local _ .vmem, ⟨5, _⟩ => ⟨S1x1x64, .f32⟩
  | .local _ .vmem, ⟨6, _⟩ => ⟨S20x1x64, .f32⟩
  | .local _ .vmem, ⟨7, _⟩ => ⟨S2x64, .f32⟩
  | .local _ .vmem, ⟨8, _⟩ => ⟨S8000x128, .f32⟩
  | .local _ .vmem, ⟨9, _⟩ => ⟨S8000x128, .f32⟩
  | .local _ .vmem, ⟨10, _⟩ => ⟨S8000x1, .i32⟩
  | .local _ .vmem, ⟨11, _⟩ => ⟨S8000x1, .i32⟩
  | .local _ .vmem, ⟨12, _⟩ => ⟨S2x64, .f32⟩
  | .local _ .vmem, ⟨13, _⟩ => ⟨S8000x128, .f32⟩
  | .local _ .vmem, ⟨14, _⟩ => ⟨S8000x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0_0 : Ref sig .tc := ⟨.hbm, 5, rfl⟩
abbrev main_call0_v4 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S20x1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S320000x128 : Shape := ⟨2, ![320000, 128]⟩
abbrev S320000 : Shape := ⟨1, ![320000]⟩
abbrev S_ : Shape := ⟨0, ![]⟩
abbrev S64 : Shape := ⟨1, ![64]⟩
abbrev S320000x1 : Shape := ⟨2, ![320000, 1]⟩
abbrev S1x64 : Shape := ⟨2, ![1, 64]⟩
abbrev S320000x64 : Shape := ⟨2, ![320000, 64]⟩

abbrev nBuf : Space → Nat
  | .hbm => 102
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S_, .f32⟩
  | .hbm, ⟨3, _⟩ => ⟨S320000, .f32⟩
  | .hbm, ⟨4, _⟩ => ⟨S_, .f32⟩
  | .hbm, ⟨5, _⟩ => ⟨S320000, .f32⟩
  | .hbm, ⟨6, _⟩ => ⟨S_, .f32⟩
  | .hbm, ⟨7, _⟩ => ⟨S320000, .f32⟩
  | .hbm, ⟨8, _⟩ => ⟨S_, .f32⟩
  | .hbm, ⟨9, _⟩ => ⟨S64, .f32⟩
  | .hbm, ⟨10, _⟩ => ⟨S320000x1, .i32⟩
  | .hbm, ⟨11, _⟩ => ⟨S64, .f32⟩
  | .hbm, ⟨12, _⟩ => ⟨S320000x1, .i32⟩
  | .hbm, ⟨13, _⟩ => ⟨S64, .i32⟩
  | .hbm, ⟨14, _⟩ => ⟨S1x64, .i32⟩
  | .hbm, ⟨15, _⟩ => ⟨S320000x64, .i32⟩
  | .hbm, ⟨16, _⟩ => ⟨S320000x64, .i32⟩
  | .hbm, ⟨17, _⟩ => ⟨S320000x64, .i1⟩
  | .hbm, ⟨18, _⟩ => ⟨S320000x1, .f32⟩
  | .hbm, ⟨19, _⟩ => ⟨S_, .f32⟩
  | .hbm, ⟨20, _⟩ => ⟨S_, .f32⟩
  | .hbm, ⟨21, _⟩ => ⟨S320000x64, .f32⟩
  | .hbm, ⟨22, _⟩ => ⟨S320000x64, .f32⟩
  | .hbm, ⟨23, _⟩ => ⟨S320000x64, .f32⟩
  | .hbm, ⟨24, _⟩ => ⟨S_, .f32⟩
  | .hbm, ⟨25, _⟩ => ⟨S64, .f32⟩
  | .hbm, ⟨26, _⟩ => ⟨S320000x1, .f32⟩
  | .hbm, ⟨27, _⟩ => ⟨S_, .f32⟩
  | .hbm, ⟨28, _⟩ => ⟨S_, .f32⟩
  | .hbm, ⟨29, _⟩ => ⟨S320000x64, .f32⟩
  | .hbm, ⟨30, _⟩ => ⟨S320000x64, .f32⟩
  | .hbm, ⟨31, _⟩ => ⟨S320000x64, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .i1⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i32⟩
  | .hbm, ⟨80, _⟩ => ⟨S320000, .i32⟩
  | .hbm, ⟨81, _⟩ => ⟨S320000, .i1⟩
  | .hbm, ⟨82, _⟩ => ⟨S_, .i32⟩
  | .hbm, ⟨83, _⟩ => ⟨S320000, .i32⟩
  | .hbm, ⟨84, _⟩ => ⟨S320000, .i32⟩
  | .hbm, ⟨85, _⟩ => ⟨S320000, .i32⟩
  | .hbm, ⟨86, _⟩ => ⟨S320000x1, .i32⟩
  | .hbm, ⟨87, _⟩ => ⟨S320000, .f32⟩
  | .hbm, ⟨88, _⟩ => ⟨S320000x1, .f32⟩
  | .hbm, ⟨89, _⟩ => ⟨S320000x128, .f32⟩
  | .hbm, ⟨90, _⟩ => ⟨S320000x128, .f32⟩
  | .hbm, ⟨91, _⟩ => ⟨S320000x128, .f32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S320000x128, .f32⟩
  | .hbm, ⟨96, _⟩ => ⟨S320000x128, .f32⟩
  | .hbm, ⟨97, _⟩ => ⟨S_, .f32⟩
  | .hbm, ⟨98, _⟩ => ⟨S320000x128, .f32⟩
  | .hbm, ⟨99, _⟩ => ⟨S320000x128, .f32⟩
  | .hbm, ⟨100, _⟩ => ⟨S320000x128, .f32⟩
  | .hbm, ⟨101, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_v20 : Ref sig .tc := ⟨.hbm, 40, rfl⟩
abbrev main_cst_9 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_cst_10 : Ref sig .tc := ⟨.hbm, 45, rfl⟩
abbrev main_v22 : Ref sig .tc := ⟨.hbm, 46, rfl⟩
abbrev main_cst_11 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_12 : Ref sig .tc := ⟨.hbm, 51, rfl⟩
abbrev main_v26 : Ref sig .tc := ⟨.hbm, 52, rfl⟩
abbrev main_cst_13 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_cst_15 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_16 : Ref sig .tc := ⟨.hbm, 72, rfl⟩
abbrev main_call6_v0 : Ref sig .tc := ⟨.hbm, 73, rfl⟩
abbrev main_call6_v1 : Ref sig .tc := ⟨.hbm, 74, rfl⟩
abbrev main_v43 : Ref sig .tc := ⟨.hbm, 75, rfl⟩
abbrev main_cst_17 : Ref sig .tc := ⟨.hbm, 76, rfl⟩
abbrev main_v44 : Ref sig .tc := ⟨.hbm, 77, rfl⟩
abbrev main_v45 : Ref sig .tc := ⟨.hbm, 78, rfl⟩
abbrev main_c : Ref sig .tc := ⟨.hbm, 79, rfl⟩
abbrev main_v46 : Ref sig .tc := ⟨.hbm, 80, rfl⟩
abbrev main_v47 : Ref sig .tc := ⟨.hbm, 81, rfl⟩
abbrev main_c_18 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_19 : Ref sig .tc := ⟨.hbm, 92, rfl⟩
abbrev main_c_20 : Ref sig .tc := ⟨.hbm, 93, rfl⟩
abbrev main_call8_v0 : Ref sig .tc := ⟨.hbm, 94, rfl⟩
abbrev main_call8_v1 : Ref sig .tc := ⟨.hbm, 95, rfl⟩
abbrev main_call8_v2 : Ref sig .tc := ⟨.hbm, 96, rfl⟩
abbrev main_call8_v3 : Ref sig .tc := ⟨.hbm, 97, rfl⟩
abbrev main_call8_v4 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩

abbrev nD : Nat := 1
abbrev τ : Topo := Topo.v7x

variable {F : FTy → Type} [FloatOps F]
-- ==== Proof.KRun.lean ====
/- The kernel's whole run, with what its two result arrays hold at the end: the contents at the last of the
   boundaries between the segments of @main. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two results at the last boundary's contents, and both arguments as launched. -/
theorem run : θ_run defs (onTc (τ := τ) (main (F := F))) ⟨m, fun _ => 0, ρ⟩ (fun r => (∀ c : Dev nD,
      r.2.mem ((c.tc : Thread nD τ).loc main_v0_0) = W5 m ρ c main_v0_0
      ∧ r.2.mem ((c.tc : Thread nD τ).loc main_v0_1) = W5 m ρ c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v0_0 (by decide)), h c _ (mem_uc main_v0_1 (by decide)),
       (h c _ (mem_uc main_arg0 (by decide))).trans (W5_main_arg0 m ρ c),
       (h c _ (mem_uc main_arg1 (by decide))).trans (W5_main_arg1 m ρ c)⟩)

end Cert.KernelIdeal.Val

end
-- ==== Proof.Spec.lean ====
/- What the two programs compute, as plain mathematics over the extended reals: the largest magnitude of each
   cluster, the cluster's scale, and a number rounded to a cluster's scale. -/
module

public import Idealize.ShloMosaic.Lib.Pointwise
public import Idealize.ShloMosaic.Lib.IdealHost
public import Idealize.ShloMosaic.PureOps.Ideal.Laws

@[expose] public section

noncomputable section

namespace Cert.Spec

open Idealize.ShloMosaic

/-- The activations: 320000 rows of 128 features. -/
abbrev Acts := (⟨2, ![320000, 128]⟩ : Shape).Idx → EReal
/-- The cluster id of each row, a 32-bit word. -/
abbrev Ids := (⟨1, ![320000]⟩ : Shape).Idx → BitVec 32

/-- The floor put under a cluster's range: the f32 nearest to 1e-8. -/
abbrev eps : EReal := Ideal.ofBits .f32 0x322BCC77#32

theorem eps_pos : 0 < eps := by
  have h : eps = ((11258999 * 2 ^ (-50 : ℤ) : ℝ) : EReal) := by
    simp [eps, Ideal.ofBits, Ideal.ieee, -EReal.coe_mul]
  rw [h]
  exact EReal.coe_pos.mpr (by positivity)

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_zero : Ideal.ofBits .f32 0x00000000#32 = 0 := by simp [Ideal.ofBits, Ideal.ieee]
theorem ofBits_127 : Ideal.ofBits .f32 0x42FE0000#32 = ((127 : ℝ) : EReal) := by
  simp [Ideal.ofBits, Ideal.ieee, -EReal.coe_mul]; norm_num
theorem ofBits_neg_128 : Ideal.ofBits .f32 0xC3000000#32 = ((-128 : ℝ) : EReal) := by
  simp [Ideal.ofBits, Ideal.ieee, -EReal.coe_mul, -EReal.coe_neg]; norm_num
theorem ofBits_95 : Ideal.ofBits .f32 0x42BE0000#32 = ((95 : ℝ) : EReal) := by
  simp [Ideal.ofBits, Ideal.ieee, -EReal.coe_mul]; norm_num
theorem ofBits_5 : Ideal.ofBits .f32 0x40A00000#32 = ((5 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num

/-- The largest magnitude among the rows of cluster `k` (minus infinity when no row is in it). -/
def sat (x : Acts) (cl : Ids) (k : Fin 64) : EReal :=
  ⨆ (r : Fin 320000) (d : Fin 128) (_ : cl (ix1 r) = BitVec.ofNat 32 k.val), max (x (ix2 r d)) (-x (ix2 r d))

theorem sat_le_iff (x : Acts) (cl : Ids) (k : Fin 64) (u : EReal) :
    sat x cl k ≤ u ↔ ∀ (r : Fin 320000) (d : Fin 128), cl (ix1 r) = BitVec.ofNat 32 k.val → max (x (ix2 r d)) (-x (ix2 r d)) ≤ u := by
  simp only [sat, iSup_le_iff]

/-- A cluster's largest magnitude, at least `eps`. -/
def range (x : Acts) (cl : Ids) (k : Fin 64) : EReal := max (sat x cl k) eps

theorem range_le_iff (x : Acts) (cl : Ids) (k : Fin 64) (u : EReal) :
    range x cl k ≤ u ↔ eps ≤ u ∧ ∀ (r : Fin 320000) (d : Fin 128), cl (ix1 r) = BitVec.ofNat 32 k.val →
      max (x (ix2 r d)) (-x (ix2 r d)) ≤ u := by
  rw [range, max_le_iff, sat_le_iff, and_comm]

theorem range_pos (x : Acts) (cl : Ids) (k : Fin 64) : 0 < range x cl k := lt_of_lt_of_le eps_pos (le_max_right _ _)

/-- The scale of cluster `k`: its range over the 127 positive levels. -/
def scale (x : Acts) (cl : Ids) (k : Fin 64) : EReal := Ideal.div (range x cl k) ((127 : ℝ) : EReal)

theorem div_127_ne_zero {a : EReal} (h : 0 < a) : Ideal.div a ((127 : ℝ) : EReal) ≠ 0 := by
  unfold Ideal.div
  have h127 : (0 : EReal) < ((127 : ℝ) : EReal) := by exact_mod_cast (by norm_num : (0 : ℝ) < 127)
  rw [if_neg h127.ne']
  refine (EReal.mul_pos h ?_).ne'
  rw [← EReal.coe_inv]
  exact_mod_cast (by norm_num : (0 : ℝ) < (127 : ℝ)⁻¹)

theorem scale_ne_zero (x : Acts) (cl : Ids) (k : Fin 64) : scale x cl k ≠ 0 := div_127_ne_zero (range_pos x cl k)

/-- A quotient rounded to the nearest of the 256 levels, ties to even. -/
def level (q : EReal) : EReal :=
  min ((127 : ℝ) : EReal) (max ((-128 : ℝ) : EReal) (Ideal.liftRound Ideal.roundHalfEven q))

/-- A number put on the grid of step `s`. -/
def snap (a s : EReal) : EReal := level (Ideal.div a s) * s

/-- Multiplying by the reciprocal of a step that is not zero is dividing by the step. -/
theorem snap_recip (a : EReal) {s : EReal} (h : s ≠ 0) : level (a * Ideal.div 1 s) * s = snap a s := by
  rw [snap, Ideal.mul_one_div h]

/-- No magnitude is negative. -/
theorem mag_nonneg (a : EReal) : 0 ≤ max a (-a) := by
  rcases le_total 0 a with h | h
  · exact le_trans h (le_max_left _ _)
  · exact le_trans (EReal.neg_nonneg.mpr h) (le_max_right _ _)

/-- A fold of `max` is below `u` exactly when its start and every entry are. -/
theorem fold_max_le {ι : Type} (s : Finset ι) (b : EReal) (f : ι → EReal) (u : EReal) :
    s.fold max b f ≤ u ↔ b ≤ u ∧ ∀ i ∈ s, f i ≤ u := Finset.fold_max_le u

/-- A fold of `min` is above `u` exactly when its start and every entry are. -/
theorem le_fold_min {ι : Type} (s : Finset ι) (b : EReal) (f : ι → EReal) (u : EReal) :
    u ≤ s.fold min b f ↔ u ≤ b ∧ ∀ i ∈ s, u ≤ f i := Finset.le_fold_min u

/-- A sum in which one index alone carries a value is that value. -/
theorem sum_one_hot (f : Fin 64 → EReal) (c : BitVec 32) (k : Fin 64) (h : c = BitVec.ofNat 32 k.val) :
    (∑ j : Fin 64, if c = BitVec.ofNat 32 j.val then f j else 0) = f k := by
  rw [Finset.sum_eq_single k]
  · rw [if_pos h]
  · intro j _ hj
    rw [if_neg]
    intro e
    apply hj
    have := congrArg BitVec.toNat (e.symm.trans h)
    rw [BitVec.toNat_ofNat, BitVec.toNat_ofNat] at this
    have := j.isLt; have := k.isLt
    exact Fin.ext (by omega)
  · intro hk; exact absurd (Finset.mem_univ k) hk

/-- A choice on the equality of two words is a choice on their being equal. -/
theorem select_eq {α : Type} {w : ℕ} (a b : BitVec w) (x y : α) :
    Scalar.select (IntOp.cmpi .eq a b) x y = if a = b then x else y := by
  by_cases h : a = b
  · subst h; simp [Scalar.select, IntOp.cmpi]
  · have e : (a == b) = false := by simpa using h
    simp [Scalar.select, IntOp.cmpi, h, e]

end Cert.Spec

end
-- ==== Proof.KPay.lean ====
/- What one block of each of the three kernels computes, read at an index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Pay

open Idealize.ShloMosaic Idealize.ShloMosaic.TcCoe
open Cert.KernelIdeal Cert.KernelIdeal.Gen Cert.Spec

/-- The largest entry, over the rows `r` of a block, of the row's largest magnitude where the row is in cluster `k`
    and of zero where it is not. -/
def stat (x : FVec Ideal S16000x128 .f32) (c : IVec S16000x1 32) (k : Fin 64) : EReal :=
  Finset.univ.fold max ⊥ fun r : Fin 16000 =>
    if c (ix2 r 0) = BitVec.ofNat 32 k.val then
      Finset.univ.fold max ⊥ fun d : Fin 128 => max (x (ix2 r d)) (-x (ix2 r d)) else 0

/-- The statistics kernel leaves each cluster's statistic of the block. -/
theorem stats_apply (x : FVec Ideal S16000x128 .f32) (c : IVec S16000x1 32) (k : Fin 64) :
    k0_pay1 (F := Ideal) x c (ix3 0 0 k) = stat x c k := by
  pointwise [k0_pay1]
  simp only [select_eq, ofBits_neg_inf]
  rfl

/-- Above zero, a block's statistic is bounded by what bounds the magnitudes of the cluster's rows. -/
theorem stat_le_iff (x : FVec Ideal S16000x128 .f32) (c : IVec S16000x1 32) (k : Fin 64) (u : EReal) (hu : 0 ≤ u) :
    stat x c k ≤ u ↔ ∀ (r : Fin 16000) (d : Fin 128), c (ix2 r 0) = BitVec.ofNat 32 k.val →
      max (x (ix2 r d)) (-x (ix2 r d)) ≤ u := by
  rw [stat, fold_max_le]
  refine ⟨fun h r d hr => ?_, fun h => ⟨bot_le, fun r _ => ?_⟩⟩
  · have := h.2 r (Finset.mem_univ _)
    rw [if_pos hr, fold_max_le] at this
    exact this.2 d (Finset.mem_univ _)
  · split
    · rename_i hr
      rw [fold_max_le]
      exact ⟨bot_le, fun d _ => h r d hr⟩
    · exact hu

/-- The range read off the twenty blocks' statistics. -/
def rng (b : FVec Ideal S20x1x64 .f32) (k : Fin 64) : EReal :=
  max (Finset.univ.fold max ⊥ fun p : Fin 20 => b (ix3 p 0 k)) eps

/-- What bounds that range from above. -/
theorem rng_le_iff (b : FVec Ideal S20x1x64 .f32) (k : Fin 64) (u : EReal) :
    rng b k ≤ u ↔ eps ≤ u ∧ ∀ p : Fin 20, b (ix3 p 0 k) ≤ u := by
  rw [rng, max_le_iff, fold_max_le, and_comm]
  simp

/-- The maximum over the first two axes, read at a cluster, is the one over the twenty blocks. -/
theorem fold_drop (b : FVec Ideal S20x1x64 .f32) (k : Fin 64) :
    Finset.fold max ⊥ b {i | reduces_S20x1x64_S64.drop i = ix1 k} = Finset.univ.fold max ⊥ fun p : Fin 20 => b (ix3 p 0 k) := by
  refine eq_of_forall_ge_iff fun u => ?_
  rw [fold_max_le, fold_max_le]
  refine and_congr_right fun _ => ⟨fun h p _ => h _ ?_, fun h i hi => ?_⟩
  · rw [Finset.mem_filter]
    refine ⟨Finset.mem_univ _, funext fun a => Fin.ext ?_⟩
    obtain rfl : a = 0 := Subsingleton.elim _ _
    rw [Shape.Reduces.drop_apply_val_of_eq _ _ 0 2]
    rfl
  · have e := (Finset.mem_filter.mp hi).2
    have e' : (reduces_S20x1x64_S64.drop i 0 : ℕ) = k.val := by rw [e]; rfl
    rw [Shape.Reduces.drop_apply_val_of_eq _ _ 0 2] at e'
    have : i = ix3 (i 0) 0 k := by
      funext a
      match a with
      | ⟨0, _⟩ => rfl
      | ⟨1, _⟩ => exact Subsingleton.elim (α := Fin 1) _ _
      | ⟨2, _⟩ => exact Fin.ext e'
    rw [this]
    exact h _ (Finset.mem_univ _)

/-- The scale kernel leaves the scales in row zero … -/
theorem scale_apply_zero (b : FVec Ideal S20x1x64 .f32) (k : Fin 64) :
    k1_pay1 (F := Ideal) b (ix2 0 k) = Ideal.div (rng b k) ((127 : ℝ) : EReal) := by
  pointwise [k1_pay1]
  rw [ofBits_neg_inf, fold_drop, ofBits_127]
  rfl

/-- … and their reciprocals in row one. -/
theorem scale_apply_one (b : FVec Ideal S20x1x64 .f32) (k : Fin 64) :
    k1_pay1 (F := Ideal) b (ix2 1 k) = Ideal.div 1 (Ideal.div (rng b k) ((127 : ℝ) : EReal)) := by
  pointwise [k1_pay1]
  rw [ofBits_neg_inf, fold_drop, ofBits_127]
  rfl

/-- The quantizing kernel, at a row of cluster `k`: the product with the cluster's second entry, put on a level, times
    its first entry. -/
theorem quant_apply (x : FVec Ideal S8000x128 .f32) (c : IVec S8000x1 32) (s t : FVec Ideal S1x64 .f32)
    (r : Fin 8000) (d : Fin 128) (k : Fin 64) (hk : c (ix2 r 0) = BitVec.ofNat 32 k.val) :
    k2_pay1 (F := Ideal) x c s t (ix2 r d) = level (x (ix2 r d) * t (ix2 0 k)) * s (ix2 0 k) := by
  pointwise [k2_pay1]
  simp only [select_eq]
  rw [sum_one_hot (fun j => t (ix2 0 j)) _ k hk, sum_one_hot (fun j => s (ix2 0 j)) _ k hk, ofBits_127, ofBits_neg_128]
  rfl

end Cert.KernelIdeal.Pay

end
-- ==== Proof.KStats.lean ====
/- What the statistics kernel leaves in its array: at each block of rows and each cluster, the block's statistic. -/
module

public import proofs.«01_k».proof.Proof.KPay
public import proofs.«01_k».proof.Proof.Gen.KernelIdeal.Frame
public import Idealize.ShloMosaic.Lib.Pipeline.ValueKit

@[expose] public section

set_option maxRecDepth 16384

noncomputable section

namespace Cert.KernelIdeal.Arr

open Idealize.ShloMosaic Idealize.ShloMosaic.TcCoe
open Idealize.ShloMosaic.Pipeline (Dat Cfg Window)
open Cert.KernelIdeal Cert.KernelIdeal.Gen Cert.KernelIdeal.Pay Cert.Spec

/-- Row `r` of block `p`. -/
def rowOf (p : Fin 20) (r : Fin 16000) : Fin 320000 := ⟨p.val * 16000 + r.val, by omega⟩

/-- Block `p` of the activations, and of the clusters of the rows. -/
def xBlk (X : FVec Ideal S320000x128 .f32) (p : Fin 20) : FVec Ideal S16000x128 .f32 := fun j => X (ix2 (rowOf p (j 0)) (j 1))
def cBlk (C : IVec S320000x1 32) (p : Fin 20) : IVec S16000x1 32 := fun j => C (ix2 (rowOf p (j 0)) (j 1))

/-- Every block's statistics. -/
def stats (X : FVec Ideal S320000x128 .f32) (C : IVec S320000x1 32) : FVec Ideal S20x1x64 .f32 :=
  fun i => stat (xBlk X (i 0)) (cBlk C (i 0)) (i 2)

variable (V : (c : Dev nD) → (b : Ref sig .tc) → Buf (Elt Ideal) ((c : Thread nD τ).loc b)) (c : Dev nD)

/-- Where the blocks of point `t` lie: the activations', the clusters' and the statistics'. -/
theorem at0 : ∀ t : Fin cfg0.N, win0_0.index t = ![t.val, 0] ∧ win0_1.index t = ![t.val, 0] ∧ win0_2.index t = ![t.val, 0, 0] :=
  (by decide +kernel : ∀ t : Fin grid0.N, _)

/-- The statistics kernel's points leave every block's statistics. -/
theorem stats_arr : (dat0 (F := Ideal) V c).arrAt 2 cfg0.N = stats (V c main_arg0) (V c main_call0_v0) := by
  refine (dat0 (F := Ideal) V c).arrAt_eq_of_covers 2 _ (by decide +kernel) fun t hf y => ?_
  blk_simp
  rw [after0_2]; frame_out
  have hx : iblk0 (F := Ideal) V c 0 t = xBlk (V c main_arg0) ⟨t.val, t.isLt⟩ := by
    funext j
    show _ = V c main_arg0 _
    blk_ext [iblk0, (at0 t).1, rowOf]
  have hc : iblk0 (F := Ideal) V c 1 t = cBlk (V c main_call0_v0) ⟨t.val, t.isLt⟩ := by
    funext j
    show _ = V c main_call0_v0 _
    blk_ext [iblk0, (at0 t).2.1, rowOf]
  rw [hx, hc]
  have hy : y = ix3 0 0 (y 2) := by
    funext a
    match a with
    | ⟨0, _⟩ => exact Subsingleton.elim (α := Fin 1) _ _
    | ⟨1, _⟩ => exact Subsingleton.elim (α := Fin 1) _ _
    | ⟨2, _⟩ => rfl
  have he : ((View.whole main_call0_v1).slice (win0_2.rect t)).emb y = ix3 ⟨t.val, t.isLt⟩ 0 (y 2) := by
    blk_ext [(at0 t).2.2]
  rw [he]
  exact (congrArg _ hy).trans (stats_apply _ _ (y 2))

end Cert.KernelIdeal.Arr

end
-- ==== Proof.KScale.lean ====
/- What the scale kernel leaves in its array: the scales in row zero, their reciprocals in row one. -/
module

public import proofs.«01_k».proof.Proof.KPay
public import proofs.«01_k».proof.Proof.Gen.KernelIdeal.Frame
public import Idealize.ShloMosaic.Lib.Pipeline.ValueKit

@[expose] public section

set_option maxRecDepth 16384

noncomputable section

namespace Cert.KernelIdeal.Arr

open Idealize.ShloMosaic Idealize.ShloMosaic.TcCoe
open Idealize.ShloMosaic.Pipeline (Dat Cfg Window)
open Cert.KernelIdeal Cert.KernelIdeal.Gen Cert.KernelIdeal.Pay Cert.Spec

variable (V : (c : Dev nD) → (b : Ref sig .tc) → Buf (Elt Ideal) ((c : Thread nD τ).loc b)) (c : Dev nD)

/-- Where the blocks of point `t` lie. -/
theorem at1 : ∀ t : Fin cfg1.N, win1_0.index t = ![0, 0, 0] ∧ win1_1.index t = ![0, 0] :=
  (by decide +kernel : ∀ t : Fin grid1.N, _)

/-- The one point of the scale kernel leaves its whole table. -/
theorem scale_arr : (dat1 (F := Ideal) V c).arrAt 1 cfg1.N = k1_pay1 (F := Ideal) (V c main_call0_v1) := by
  refine (dat1 (F := Ideal) V c).arrAt_eq_of_covers 1 _ (by decide +kernel) fun t hf y => ?_
  blk_simp
  rw [after1_1]; frame_out
  have hb : iblk1 (F := Ideal) V c 0 t = V c main_call0_v1 := by
    funext j
    blk_ext [iblk1, (at1 t).1]
  rw [hb]
  have he : ((View.whole main_call0_v2).slice (win1_1.rect t)).emb y = y := by
    blk_ext [(at1 t).2]
  exact congrArg _ he.symm

end Cert.KernelIdeal.Arr

end
-- ==== Proof.KQuant.lean ====
/- What the quantizing kernel leaves in its array, at a row whose cluster is one of the sixty-four. -/
module

public import proofs.«01_k».proof.Proof.KPay
public import proofs.«01_k».proof.Proof.Gen.KernelIdeal.Frame
public import Idealize.ShloMosaic.Lib.Pipeline.ValueKit

@[expose] public section

set_option maxRecDepth 16384

noncomputable section

namespace Cert.KernelIdeal.Arr

open Idealize.ShloMosaic Idealize.ShloMosaic.TcCoe
open Idealize.ShloMosaic.Pipeline (Dat Cfg Window)
open Cert.KernelIdeal Cert.KernelIdeal.Gen Cert.KernelIdeal.Pay Cert.Spec

/-- Row `r` of block `p`. -/
def rowOf8 (p : Fin 40) (r : Fin 8000) : Fin 320000 := ⟨p.val * 8000 + r.val, by omega⟩

/-- Block `p` of the activations, and of the clusters of the rows. -/
def xBlk8 (X : FVec Ideal S320000x128 .f32) (p : Fin 40) : FVec Ideal S8000x128 .f32 := fun j => X (ix2 (rowOf8 p (j 0)) (j 1))
def cBlk8 (C : IVec S320000x1 32) (p : Fin 40) : IVec S8000x1 32 := fun j => C (ix2 (rowOf8 p (j 0)) (j 1))

/-- One row of the table of scales. -/
def row (T : FVec Ideal S2x64 .f32) (a : Fin 2) : FVec Ideal S1x64 .f32 := fun j => T (ix2 a (j 1))

/-- Every block quantized. -/
def quant (X : FVec Ideal S320000x128 .f32) (C : IVec S320000x1 32) (T : FVec Ideal S2x64 .f32) : FVec Ideal S320000x128 .f32 :=
  fun i => k2_pay1 (F := Ideal) (xBlk8 X ⟨(i 0).val / 8000, by have := (i 0).isLt; simp at this; omega⟩)
    (cBlk8 C ⟨(i 0).val / 8000, by have := (i 0).isLt; simp at this; omega⟩) (row T 0) (row T 1)
    (ix2 ⟨(i 0).val % 8000, by omega⟩ (i 1))

/-- A row of cluster `k`, quantized with the cluster's two entries of the table. -/
theorem quant_at (X : FVec Ideal S320000x128 .f32) (C : IVec S320000x1 32) (T : FVec Ideal S2x64 .f32)
    (r : Fin 320000) (d : Fin 128) (k : Fin 64) (hk : C (ix2 r 0) = BitVec.ofNat 32 k.val) :
    quant X C T (ix2 r d) = level (X (ix2 r d) * T (ix2 1 k)) * T (ix2 0 k) := by
  have hr : rowOf8 ⟨r.val / 8000, by omega⟩ ⟨r.val % 8000, by omega⟩ = r := Fin.ext (by simp only [rowOf8]; omega)
  refine (quant_apply _ _ _ _ _ _ k ?_).trans ?_
  · exact (congrArg (fun q => C (ix2 q 0)) hr).trans hk
  · exact congrArg (fun q => level (X (ix2 q d) * T (ix2 1 k)) * T (ix2 0 k)) hr

variable (V : (c : Dev nD) → (b : Ref sig .tc) → Buf (Elt Ideal) ((c : Thread nD τ).loc b)) (c : Dev nD)

/-- Where the blocks of point `t` lie. -/
theorem at2 : ∀ t : Fin cfg2.N, win2_0.index t = ![t.val, 0] ∧ win2_1.index t = ![t.val, 0] ∧ win2_2.index t = ![0, 0] ∧ win2_3.index t = ![t.val, 0] :=
  (by decide +kernel : ∀ t : Fin grid2.N, _)

/-- The block that point `t` works on. -/
def pt2 (t : Fin cfg2.N) : Fin 40 := ⟨t.val, t.isLt⟩

/-- The two rows of the table, as the kernel loads them. -/
theorem ld_row0 (T : FVec Ideal S2x64 .f32) : View.ld (Val := Elt Ideal) (e' := .f32) T r2_2 = row T 0 := by
  funext j
  refine View.ld_unit_apply_of (Val := Elt Ideal) (e := .f32) T _ _ _ j _ fun a => ?_
  match a with
  | ⟨0, _⟩ => have : (j 0).val < 1 := (j 0).isLt
              show 0 = 0 + (j 0).val
              omega
  | ⟨1, _⟩ => exact (Nat.zero_add _).symm
theorem ld_row1 (T : FVec Ideal S2x64 .f32) : View.ld (Val := Elt Ideal) (e' := .f32) T r2_3 = row T 1 := by
  funext j
  refine View.ld_unit_apply_of (Val := Elt Ideal) (e := .f32) T _ _ _ j _ fun a => ?_
  match a with
  | ⟨0, _⟩ => have : (j 0).val < 1 := (j 0).isLt
              show 1 = 1 + (j 0).val
              omega
  | ⟨1, _⟩ => exact (Nat.zero_add _).symm

/-- The quantized array at a row of block `p`. -/
theorem quant_block (X : FVec Ideal S320000x128 .f32) (C : IVec S320000x1 32) (T : FVec Ideal S2x64 .f32)
    (p : Fin 40) (r : Fin 8000) (d : Fin 128) :
    quant X C T (ix2 (rowOf8 p r) d) = k2_pay1 (F := Ideal) (xBlk8 X p) (cBlk8 C p) (row T 0) (row T 1) (ix2 r d) := by
  have hp : (⟨(p.val * 8000 + r.val) / 8000, by omega⟩ : Fin 40) = p := Fin.ext (by simp only; omega)
  have hr : (⟨(p.val * 8000 + r.val) % 8000, by omega⟩ : Fin 8000) = r := Fin.ext (by simp only; omega)
  exact congrArg₂ (fun (p : Fin 40) (r : Fin 8000) =>
    k2_pay1 (F := Ideal) (xBlk8 X p) (cBlk8 C p) (row T 0) (row T 1) (ix2 r d)) hp hr

/-- The quantizing kernel's points leave every block quantized. -/
theorem quant_arr : (dat2 (F := Ideal) V c).arrAt 3 cfg2.N = quant (V c main_arg0) (V c main_call0_v0) (V c main_call0_v2) := by
  refine (dat2 (F := Ideal) V c).arrAt_eq_of_covers 3 _ (by decide +kernel) fun t hf y => ?_
  blk_simp
  rw [after2_3]; frame_out
  have hx : iblk2 (F := Ideal) V c 0 t = xBlk8 (V c main_arg0) (pt2 t) := by
    funext j
    show _ = V c main_arg0 _
    blk_ext [iblk2, (at2 t).1, rowOf8, pt2]
  have hc : iblk2 (F := Ideal) V c 1 t = cBlk8 (V c main_call0_v0) (pt2 t) := by
    funext j
    show _ = V c main_call0_v0 _
    blk_ext [iblk2, (at2 t).2.1, rowOf8, pt2]
  have hs : iblk2 (F := Ideal) V c 2 t = V c main_call0_v2 := by
    funext j
    blk_ext [iblk2, (at2 t).2.2.1]
  rw [hx, hc, hs]
  refine (congrArg₂ (fun s u => k2_pay1 (F := Ideal) (xBlk8 (V c main_arg0) (pt2 t)) (cBlk8 (V c main_call0_v0) (pt2 t)) s u y)
    (ld_row0 (V c main_call0_v2)) (ld_row1 (V c main_call0_v2))).trans ?_
  have he : ((View.whole main_v0_0).slice (win2_3.rect t)).emb y = ix2 (rowOf8 (pt2 t) (y 0)) (y 1) := by
    blk_ext [(at2 t).2.2.2, rowOf8, pt2]
  refine Eq.trans ?_ (congrArg _ he.symm)
  refine Eq.trans ?_ (quant_block _ _ _ (pt2 t) (y 0) (y 1)).symm
  refine congrArg _ (funext fun a => ?_)
  match a with
  | ⟨0, _⟩ => rfl
  | ⟨1, _⟩ => rfl

end Cert.KernelIdeal.Arr

end
-- ==== Proof.KVal.lean ====
/- The kernel's two results in terms of its arguments. -/
module

public import proofs.«01_k».proof.Proof.KStats
public import proofs.«01_k».proof.Proof.KScale
public import proofs.«01_k».proof.Proof.KQuant
public import Idealize.ShloMosaic.Lib.Claim

@[expose] public section

set_option maxRecDepth 16384

noncomputable section

namespace Cert.KernelIdeal.Arr

open Idealize.ShloMosaic Idealize.ShloMosaic.TcCoe
open Cert.KernelIdeal Cert.KernelIdeal.Gen Cert.KernelIdeal.Pay Cert.Spec

variable (m : (ℓ : Loc nD τ sig) → Buf (Elt Ideal) ℓ) (ρ : Dev nD → PrngReg) (c : Dev nD)

/-- The clusters as a column. -/
theorem col_apply (r : Fin 320000) : W1 (F := Ideal) m ρ c main_call0_v0 (ix2 r 0) = m ((c : Thread nD τ).loc main_arg1) (ix1 r) := by
  show StableHlo.after hostOps0 (W0 m ρ c) (Proc.devRef .tc main_call0_v0) (ix2 r 0) = _
  entry_read
  pointwise

/-- The second result is row zero of the table of scales. -/
theorem out1_eq (k : Fin 64) : W5 (F := Ideal) m ρ c main_v0_1 (ix1 k) = W4 (F := Ideal) m ρ c main_call0_v2 (ix2 0 k) := by
  show StableHlo.after hostOps3 (W4 m ρ c) (Proc.devRef .tc main_v0_1) (ix1 k) = _
  entry_read
  pointwise
  show extractStridedSlice S1x64 ![0, 0] (W4 (F := Ideal) m ρ c main_call0_v2) slices_S2x64_S1x64_0_0 (ix2 0 k) = _
  pointwise

/-- The range off the blocks' statistics is the range off the rows. -/
theorem rng_stats (X : FVec Ideal S320000x128 .f32) (C : IVec S320000x1 32) (cl : Ids) (hC : ∀ r, C (ix2 r 0) = cl (ix1 r))
    (k : Fin 64) : rng (stats X C) k = range X cl k := by
  refine eq_of_forall_ge_iff fun u => ?_
  rw [rng_le_iff, range_le_iff]
  refine and_congr_right fun hu => ?_
  have h0 : (0 : EReal) ≤ u := eps_pos.le.trans hu
  constructor
  · intro h r d hr
    have hp := (stat_le_iff _ _ _ u h0).mp (h ⟨r.val / 16000, by omega⟩) ⟨r.val % 16000, by omega⟩ d
    have e : rowOf ⟨r.val / 16000, by omega⟩ ⟨r.val % 16000, by omega⟩ = r := Fin.ext (by simp only [rowOf]; omega)
    have hc : C (ix2 (rowOf ⟨r.val / 16000, by omega⟩ ⟨r.val % 16000, by omega⟩) 0) = BitVec.ofNat 32 k.val := by
      rw [e, hC]; exact hr
    exact (congrArg (fun q => max (X (ix2 q d)) (-X (ix2 q d))) e.symm).trans_le (hp hc)
  · intro h p
    refine (stat_le_iff _ _ _ u h0).mpr fun r d hr => ?_
    exact h (rowOf p r) d ((hC _).symm.trans hr)

/-- The table that the scale kernel leaves. -/
theorem table_eq : W3 (F := Ideal) m ρ c main_call0_v2
    = k1_pay1 (F := Ideal) (stats (m ((c : Thread nD τ).loc main_arg0)) (W1 (F := Ideal) m ρ c main_call0_v0)) := by
  refine (W3_arr m ρ c 1).trans ((scale_arr (V2 m ρ) c).trans (congrArg _ ?_))
  refine (W2_arr m ρ c 2).trans ((stats_arr (V1 m ρ) c).trans ?_)
  exact congrArg (fun X => stats X _) (W1_args m ρ c main_arg0 (by decide))

/-- Its row zero: each cluster's scale. -/
theorem table_zero (k : Fin 64) : W3 (F := Ideal) m ρ c main_call0_v2 (ix2 0 k)
    = scale (m ((c : Thread nD τ).loc main_arg0)) (m ((c : Thread nD τ).loc main_arg1)) k := by
  refine (congrFun (table_eq m ρ c) _).trans ((scale_apply_zero _ k).trans ?_)
  exact congrArg (fun z => Ideal.div z _) (rng_stats _ _ _ (col_apply m ρ c) k)

/-- Its row one: the scale's reciprocal. -/
theorem table_one (k : Fin 64) : W3 (F := Ideal) m ρ c main_call0_v2 (ix2 1 k)
    = Ideal.div 1 (scale (m ((c : Thread nD τ).loc main_arg0)) (m ((c : Thread nD τ).loc main_arg1)) k) := by
  refine (congrFun (table_eq m ρ c) _).trans ((scale_apply_one _ k).trans ?_)
  exact congrArg (fun z => Ideal.div 1 (Ideal.div z _)) (rng_stats _ _ _ (col_apply m ρ c) k)

/-- The second result: each cluster's scale. -/
theorem result1 (k : Fin 64) : W5 (F := Ideal) m ρ c main_v0_1 (ix1 k)
    = scale (m ((c : Thread nD τ).loc main_arg0)) (m ((c : Thread nD τ).loc main_arg1)) k :=
  (out1_eq m ρ c k).trans ((congrFun (W4_of m ρ c main_call0_v2 (by decide)) _).trans (table_zero m ρ c k))

/-- The kernel's product with the reciprocal is the quotient. -/
theorem snap_of {a a' s s' t : EReal} (ha : a = a') (ht : t = Ideal.div 1 s') (hs : s = s') (h : s' ≠ 0) :
    level (a * t) * s = snap a' s' := by
  subst ha hs ht
  exact snap_recip _ h

/-- The first result: at a row of cluster `k`, the entry put on the cluster's grid. -/
theorem result0 (r : Fin 320000) (d : Fin 128) (k : Fin 64)
    (hk : m ((c : Thread nD τ).loc main_arg1) (ix1 r) = BitVec.ofNat 32 k.val) :
    W5 (F := Ideal) m ρ c main_v0_0 (ix2 r d)
      = snap (m ((c : Thread nD τ).loc main_arg0) (ix2 r d))
          (scale (m ((c : Thread nD τ).loc main_arg0)) (m ((c : Thread nD τ).loc main_arg1)) k) := by
  refine (congrFun (W5_of m ρ c main_v0_0 (by decide)) _).trans ?_
  refine (congrFun ((W4_arr m ρ c 3).trans (quant_arr (V3 m ρ) c)) _).trans ?_
  have hcol : W3 (F := Ideal) m ρ c main_call0_v0 = W1 (F := Ideal) m ρ c main_call0_v0 :=
    (W3_of m ρ c main_call0_v0 (by decide)).trans (W2_of m ρ c main_call0_v0 (by decide))
  refine (quant_at _ _ _ r d k ((congrFun hcol _).trans ((col_apply m ρ c r).trans hk))).trans ?_
  have hx : W3 (F := Ideal) m ρ c main_arg0 = m ((c : Thread nD τ).loc main_arg0) := W3_args m ρ c main_arg0 (by decide)
  exact snap_of (congrFun hx _) (table_one m ρ c k) (table_zero m ρ c k) (scale_ne_zero _ _ _)

end Cert.KernelIdeal.Arr

end
-- ==== Proof.RVal.lean ====
/- What the reference computes, read at an index. -/
module

public import proofs.«01_k».proof.Proof.Spec
public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.ReferenceIdeal.Val

open Idealize.ShloMosaic Idealize.ShloMosaic.TcCoe
open Cert.ReferenceIdeal Cert.ReferenceIdeal.Gen Cert.ReferenceIdeal.Read Cert.Spec

variable (x : FVec Ideal S320000x128 .f32) (cl : IVec S320000 32)

/-- The least and the greatest entry of a row. -/
theorem rowMin_apply (r : Fin 320000) :
    val_main_v0 (F := Ideal) x (ix1 r) = Finset.univ.fold min ⊤ fun d : Fin 128 => x (ix2 r d) := by
  pointwise [val_main_v0, val_main_cst]
  rw [ofBits_pos_inf]
theorem rowMax_apply (r : Fin 320000) :
    val_main_v1 (F := Ideal) x (ix1 r) = Finset.univ.fold max ⊥ fun d : Fin 128 => x (ix2 r d) := by
  pointwise [val_main_v1, val_main_cst_0]
  rw [ofBits_neg_inf]

/-- The same where the row is in the cluster, the extreme's neutral value where it is not. -/
theorem v13_apply (r : Fin 320000) (k : Fin 64) : val_main_v13 (F := Ideal) x cl (ix2 r k)
    = if cl (ix1 r) = BitVec.ofNat 32 k.val then Finset.univ.fold min ⊤ fun d : Fin 128 => x (ix2 r d) else ⊤ := by
  pointwise [val_main_v13, val_main_v11, val_main_v10, val_main_v9, val_main_v8, val_main_v7, val_main_v6, val_main_call0_v2, val_main_call0_v1, val_main_call0_v0, val_main_v12, val_main_cst_3]
  rw [select_eq, rowMin_apply]
  exact congrArg _ ofBits_pos_inf
theorem v16_apply (r : Fin 320000) (k : Fin 64) : val_main_v16 (F := Ideal) x cl (ix2 r k)
    = if cl (ix1 r) = BitVec.ofNat 32 k.val then Finset.univ.fold max ⊥ fun d : Fin 128 => x (ix2 r d) else ⊥ := by
  pointwise [val_main_v16, val_main_v11, val_main_v10, val_main_v9, val_main_v8, val_main_v7, val_main_v6, val_main_call1_v2, val_main_call1_v1, val_main_call1_v0, val_main_v15, val_main_cst_5]
  rw [select_eq, rowMax_apply]
  exact congrArg _ ofBits_neg_inf

/-- A cluster's least entry, bounded from below. -/
theorem le_v14_iff (k : Fin 64) (u : EReal) : u ≤ val_main_v14 (F := Ideal) x cl (ix1 k) ↔
    ∀ (r : Fin 320000) (d : Fin 128), cl (ix1 r) = BitVec.ofNat 32 k.val → u ≤ x (ix2 r d) := by
  pointwise [val_main_v14, val_main_cst_4]
  rw [ofBits_pos_inf, le_fold_min]
  refine ⟨fun h r d hr => ?_, fun h => ⟨le_top, fun r _ => ?_⟩⟩
  · have := h.2 r (Finset.mem_univ _)
    rw [v13_apply, if_pos hr, le_fold_min] at this
    exact this.2 d (Finset.mem_univ _)
  · rw [v13_apply]
    split
    · rename_i hr
      rw [le_fold_min]
      exact ⟨le_top, fun d _ => h r d hr⟩
    · exact le_top
/-- A cluster's greatest entry, bounded from above. -/
theorem v17_le_iff (k : Fin 64) (u : EReal) : val_main_v17 (F := Ideal) x cl (ix1 k) ≤ u ↔
    ∀ (r : Fin 320000) (d : Fin 128), cl (ix1 r) = BitVec.ofNat 32 k.val → x (ix2 r d) ≤ u := by
  pointwise [val_main_v17, val_main_cst_6]
  rw [ofBits_neg_inf, fold_max_le]
  refine ⟨fun h r d hr => ?_, fun h => ⟨bot_le, fun r _ => ?_⟩⟩
  · have := h.2 r (Finset.mem_univ _)
    rw [v16_apply, if_pos hr, fold_max_le] at this
    exact this.2 d (Finset.mem_univ _)
  · rw [v16_apply]
    split
    · rename_i hr
      rw [fold_max_le]
      exact ⟨bot_le, fun d _ => h r d hr⟩
    · exact bot_le

/-- A cluster id read as a signed number is the number, for each of the sixty-four. -/
theorem toInt_ofNat (k : Fin 64) : (BitVec.ofNat 32 k.val).toInt = (k.val : ℤ) := by
  revert k
  decide
theorem toInt_eq_iff (b : BitVec 32) (k : Fin 64) : b.toInt = (k.val : ℤ) ↔ b = BitVec.ofNat 32 k.val := by
  rw [← toInt_ofNat k, BitVec.toInt_inj]

/-- The count is positive exactly where some row is in the cluster. -/
theorem count_pos_iff (k : Fin 64) : 0 < val_main_v5 (F := Ideal) cl (ix1 k) ↔ ∃ r : Fin 320000, cl (ix1 r) = BitVec.ofNat 32 k.val := by
  have hl : ∀ j : S320000.Idx, scatter_S64_S320000x1_S320000_n_0_0_1.resultIdx? j (val_main_v4 (F := Ideal) cl) = some (ix1 k)
      ↔ cl j = BitVec.ofNat 32 k.val := by
    intro j
    rw [← toInt_eq_iff]
    refine (Routing.resultIdx?_ix1 _ j _ k).trans ?_
    have hs : scatter_S64_S320000x1_S320000_n_0_0_1.start j (val_main_v4 (F := Ideal) cl) 0 = (cl j).toInt := by
      unfold ScatterDims.start
      rw [dif_pos (show (0 : Fin 1) ∈ scatter_S64_S320000x1_S320000_n_0_0_1.scatterDimsToOperandDims from List.mem_singleton.mpr rfl)]
      rw [val_main_v4_apply]
      refine congrArg (fun q => (cl q).toInt) (funext fun a => ?_)
      obtain rfl : a = 0 := Subsingleton.elim _ _
      exact Fin.ext rfl
    have hw : scatter_S64_S320000x1_S320000_n_0_0_1.window j 0 = 0 := by
      unfold ScatterDims.window
      exact dif_neg (by decide)
    rw [hs, hw]
    simp
  have hv : val_main_v5 (F := Ideal) cl (ix1 k)
      = ∑ j ∈ Finset.univ.filter (fun j : S320000.Idx => cl j = BitVec.ofNat 32 k.val), (1 : EReal) := by
    have e : val_main_v5 (F := Ideal) cl (ix1 k) = Ideal.ofBits .f32 0x00000000#32
        + ∑ j ∈ Finset.univ.filter (fun j => scatter_S64_S320000x1_S320000_n_0_0_1.resultIdx? j (val_main_v4 (F := Ideal) cl) = some (ix1 k)),
          val_main_v2 (F := Ideal) j := rfl
    rw [e, ofBits_zero, zero_add]
    refine Finset.sum_congr (Finset.filter_congr fun j _ => hl j) fun j _ => ?_
    rw [val_main_v2_apply]
    exact Ideal.ofBits_one_f32
  rw [hv]
  constructor
  · intro h
    by_contra hn
    refine h.ne' (Finset.sum_eq_zero fun j hj => (hn ⟨j 0, ?_⟩).elim)
    have e : ix1 (j 0) = j := funext fun a => by
      obtain rfl : a = 0 := Subsingleton.elim _ _
      rfl
    exact (congrArg cl e).trans (Finset.mem_filter.mp hj).2
  · rintro ⟨r, hr⟩
    refine lt_of_lt_of_le one_pos (Finset.single_le_sum (f := fun _ => (1 : EReal)) (fun _ _ => zero_le_one)
      (Finset.mem_filter.mpr ⟨Finset.mem_univ (ix1 r), hr⟩))

/-- Nineteen twentieths of a number and one twentieth of it are the number, at the infinities too. -/
theorem blend (v : EReal) : v * Ideal.div ((95 : ℝ) : EReal) ((100 : ℝ) : EReal) + v * Ideal.div ((5 : ℝ) : EReal) ((100 : ℝ) : EReal) = v := by
  have h100 : ((100 : ℝ) : EReal) ≠ 0 := by exact_mod_cast (by norm_num : (100 : ℝ) ≠ 0)
  have h95 : Ideal.div ((95 : ℝ) : EReal) ((100 : ℝ) : EReal) = ((19 / 20 : ℝ) : EReal) := by
    rw [Ideal.div, if_neg h100, ← EReal.coe_inv, ← EReal.coe_mul]; norm_num
  have h5 : Ideal.div ((5 : ℝ) : EReal) ((100 : ℝ) : EReal) = ((1 / 20 : ℝ) : EReal) := by
    rw [Ideal.div, if_neg h100, ← EReal.coe_inv, ← EReal.coe_mul]; norm_num
  rw [h95, h5]
  induction v with
  | bot => rw [EReal.bot_mul_coe_of_pos (by norm_num), EReal.bot_mul_coe_of_pos (by norm_num)]; rfl
  | top => rw [EReal.top_mul_coe_of_pos (by norm_num), EReal.top_mul_coe_of_pos (by norm_num)]; rfl
  | coe v => rw [← EReal.coe_mul, ← EReal.coe_mul, ← EReal.coe_add]; congr 1; ring

/-- A cluster's two extremes, where some row is in it, and zeros where none is; the larger of their magnitudes, and at
    least `eps`. -/
def least (k : Fin 64) : EReal := if 0 < val_main_v5 (F := Ideal) cl (ix1 k) then val_main_v14 (F := Ideal) x cl (ix1 k) else 0
def greatest (k : Fin 64) : EReal := if 0 < val_main_v5 (F := Ideal) cl (ix1 k) then val_main_v17 (F := Ideal) x cl (ix1 k) else 0
def width (k : Fin 64) : EReal :=
  max eps (max (max (least x cl k) (-least x cl k)) (max (greatest x cl k) (-greatest x cl k)))

/-- The scale is the width over 127. -/
theorem v45_apply (k : Fin 64) : val_main_v45 (F := Ideal) x cl (ix1 k) = Ideal.div (width x cl k)
    ((127 : ℝ) : EReal) := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18]
  have c7 : val_main_cst_7 (F := Ideal) ix0 = (0 : EReal) := ofBits_zero
  have c10 : val_main_cst_10 (F := Ideal) ix0 = (0 : EReal) := ofBits_zero
  have c11 : val_main_cst_11 (F := Ideal) ix0 = (0 : EReal) := ofBits_zero
  have c12 : val_main_cst_12 (F := Ideal) ix0 = ((95 : ℝ) : EReal) := ofBits_95
  have c13 : val_main_cst_13 (F := Ideal) ix0 = ((100 : ℝ) : EReal) := ofBits_100
  have c14 : val_main_cst_14 (F := Ideal) ix0 = ((5 : ℝ) : EReal) := ofBits_5
  have c15 : val_main_cst_15 (F := Ideal) ix0 = ((100 : ℝ) : EReal) := ofBits_100
  have c17 : val_main_cst_17 (F := Ideal) ix0 = ((127 : ℝ) : EReal) := ofBits_127
  have d2 : val_main_call2_v1 (F := Ideal) (ix1 k) = (0 : EReal) := (val_main_call2_v1_apply _).trans ofBits_zero
  have d3 : val_main_call3_v1 (F := Ideal) (ix1 k) = (0 : EReal) := (val_main_call3_v1_apply _).trans ofBits_zero
  have d6 : val_main_call6_v1 (F := Ideal) (ix1 k) = eps := val_main_call6_v1_apply _
  rw [c7, c10, c11, c12, c13, c14, c15, c17, d2, d3, d6]
  have ha : ∀ a : EReal, FloatOps.absf (F := Ideal) (φ := .f32) a = max a (-a) := fun _ => rfl
  unfold width least greatest
  split
  · rw [zero_add, zero_add, blend, blend, ha, ha]
  · rw [zero_add, ha]

end Cert.ReferenceIdeal.Val

end
-- ==== Proof.RScale.lean ====
/- The reference's two results, as the specification's. -/
module

public import proofs.«01_k».proof.Proof.RVal
public import proofs.«01_k».proof.Proof.Gen.ReferenceIdeal.Read
public import Idealize.ShloMosaic.Lib.Pointwise

@[expose] public section

set_option maxRecDepth 16384

noncomputable section

namespace Cert.ReferenceIdeal.Val

open Idealize.ShloMosaic Idealize.ShloMosaic.TcCoe
open Cert.ReferenceIdeal Cert.ReferenceIdeal.Gen Cert.ReferenceIdeal.Read Cert.Spec

variable (x : FVec Ideal S320000x128 .f32) (cl : IVec S320000 32)

/-- A cluster's width is its range. -/
theorem width_eq (k : Fin 64) : width x cl k = range x cl k := by
  refine eq_of_forall_ge_iff fun u => ?_
  rw [width, max_le_iff, range_le_iff]
  refine and_congr_right fun hu => ?_
  have h0 : (0 : EReal) ≤ u := eps_pos.le.trans hu
  unfold least greatest
  by_cases hp : 0 < val_main_v5 (F := Ideal) cl (ix1 k)
  · simp only [if_pos hp]
    obtain ⟨r₀, hr₀⟩ := (count_pos_iff cl k).mp hp
    have hmin := (le_v14_iff x cl k _).mp le_rfl
    have hmax := (v17_le_iff x cl k _).mp le_rfl
    simp only [max_le_iff]
    constructor
    · rintro ⟨⟨_, hA⟩, hB, _⟩ r d hr
      exact ⟨(hmax r d hr).trans hB, (EReal.neg_le_neg_iff.mpr (hmin r d hr)).trans hA⟩
    · intro h
      refine ⟨⟨(hmin r₀ 0 hr₀).trans (h r₀ 0 hr₀).1, ?_⟩, ?_, (EReal.neg_le_neg_iff.mpr (hmax r₀ 0 hr₀)).trans (h r₀ 0 hr₀).2⟩
      · refine EReal.neg_le.mpr ((le_v14_iff x cl k _).mpr fun r d hr => EReal.neg_le.mp (h r d hr).2)
      · exact (v17_le_iff x cl k _).mpr fun r d hr => (h r d hr).1
  · simp only [if_neg hp, neg_zero, max_self]
    refine ⟨fun _ r d hr => (hp ((count_pos_iff cl k).mpr ⟨r, hr⟩)).elim, fun _ => h0⟩

/-- The reference's scale is the specification's. -/
theorem scale_apply (k : Fin 64) : val_main_v45 (F := Ideal) x cl (ix1 k) = scale x cl k := by
  rw [v45_apply, width_eq, scale]

/-- An id among the sixty-four is not negative, so it is not wrapped. -/
theorem no_wrap : ∀ k : Fin 64, Scalar.select (IntOp.cmpi .slt (BitVec.ofNat 32 k.val) 0#32) (IntOp.addi (BitVec.ofNat 32 k.val) 64#32)
    (BitVec.ofNat 32 k.val) = BitVec.ofNat 32 k.val := by decide

/-- The scale looked up at a row of cluster `k`. -/
theorem v52_apply (r : Fin 320000) (k : Fin 64) (hk : cl (ix1 r) = BitVec.ofNat 32 k.val) :
    val_main_v52 (F := Ideal) x cl (ix1 r) = scale x cl k := by
  have h51 : val_main_v51 (F := Ideal) cl (ix2 r 0) = BitVec.ofNat 32 k.val := by
    pointwise [val_main_v51, val_main_v50, val_main_v49, val_main_v48, val_main_v47, val_main_v46, val_main_c, val_main_c_18]
    rw [hk]
    exact no_wrap k
  rw [← scale_apply]
  unfold val_main_v52 Host.gather
  refine congrArg _ (funext fun a => ?_)
  obtain rfl : a = 0 := Subsingleton.elim _ _
  refine Fin.ext ?_
  show gather_S64_S320000x1_S320000_n_0_n_n_0_1_1.start _ _ 0 + gather_S64_S320000x1_S320000_n_0_n_n_0_1_1.batchCoord _ 0
    + gather_S64_S320000x1_S320000_n_0_n_n_0_1_1.offCoord _ 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S320000x1_S320000_n_0_n_n_0_1_1.startIndexMap from List.mem_singleton.mpr rfl)]
  have hsi : gather_S64_S320000x1_S320000_n_0_n_n_0_1_1.siIdx (ix1 r)
      ⟨List.idxOf (0 : Fin 1) gather_S64_S320000x1_S320000_n_0_n_n_0_1_1.startIndexMap,
      List.idxOf_lt_length_iff.2 (List.mem_singleton.mpr rfl)⟩ = ix2 r 0 := by
    funext b; refine Fin.ext ?_
    match b with
    | ⟨0, _⟩ => rfl
    | ⟨1, _⟩ => rfl
  rw [hsi, h51, toInt_ofNat]
  have := k.isLt
  show min k.val (64 - 1) = k.val
  omega

/-- The first result: at a row of cluster `k`, the entry put on the cluster's grid. -/
theorem v59_apply (r : Fin 320000) (d : Fin 128) (k : Fin 64) (hk : cl (ix1 r) = BitVec.ofNat 32 k.val) :
    val_main_v59 (F := Ideal) x cl (ix2 r d) = snap (x (ix2 r d)) (scale x cl k) := by
  pointwise [val_main_v59, val_main_v58, val_main_v57, val_main_v56, val_main_v55, val_main_v54, val_main_v53, val_main_call8_v0, val_main_call8_v1, val_main_call8_v2, val_main_call8_v3, val_main_call8_v4, val_main_c_19, val_main_c_20]
  rw [v52_apply x cl r k hk]
  have h1 : FloatOps.sitofp (F := Ideal) .f32 (127#32) = ((127 : ℝ) : EReal) := by
    show (((127#32 : BitVec 32).toInt : ℝ) : EReal) = _
    rw [show (127#32 : BitVec 32).toInt = 127 by decide]; norm_num
  have h2 : FloatOps.sitofp (F := Ideal) .f32 (4294967168#32) = ((-128 : ℝ) : EReal) := by
    show (((4294967168#32 : BitVec 32).toInt : ℝ) : EReal) = _
    rw [show (4294967168#32 : BitVec 32).toInt = -128 by decide]; norm_num
  rw [h1, h2]
  rfl

end Cert.ReferenceIdeal.Val

end
-- ==== Proof.Pre.lean ====
/- What the precondition says: every row's cluster id is one of the sixty-four. -/
module

public import proofs.«01_k».proof.Proof.Gen.Pre_in_range
public import Idealize.ShloMosaic.Lib.ReduceAll
public import Idealize.ShloMosaic.Lib.Pointwise

@[expose] public section

set_option maxRecDepth 16384

noncomputable section

namespace Cert.Pre_in_range.Val

open Idealize.ShloMosaic
open Cert.Pre_in_range

/-- A word that is at least zero and below sixty-four, read signed, is one of the sixty-four ids. -/
theorem id_of_bits (b : BitVec 32) (h : IntOp.andi (IntOp.cmpi .sge b 0#32) (IntOp.cmpi .slt b 64#32) = 1#1) :
    ∃ k : Fin 64, b = BitVec.ofNat 32 k.val := by
  have h2 : (0#32).sle b = true ∧ b.slt 64#32 = true := by
    simp only [IntOp.andi, IntOp.cmpi] at h
    revert h
    cases (0#32).sle b <;> cases b.slt 64#32 <;> decide
  obtain ⟨ha, hb⟩ := h2
  rw [BitVec.sle_iff_toInt_le] at ha
  rw [BitVec.slt_iff_toInt_lt] at hb
  have e0 : (0#32 : BitVec 32).toInt = 0 := by decide
  have e64 : (64#32 : BitVec 32).toInt = 64 := by decide
  rw [e0] at ha
  rw [e64] at hb
  have hn : b.toNat < 64 := by
    rw [BitVec.toInt_eq_toNat_cond] at ha hb
    have := b.isLt
    split at ha <;> omega
  exact ⟨⟨b.toNat, hn⟩, by simp⟩

/-- Under the precondition every row is in one of the sixty-four clusters. -/
theorem ids (x : FVec Ideal S320000x128 .f32) (cl : IVec S320000 32)
    (h : fn (F := Ideal) x cl = fun _ => 1#1) (r : Fin 320000) : ∃ k : Fin 64, cl (ix1 r) = BitVec.ofNat 32 k.val := by
  haveI : Subsingleton S_.Idx := ⟨fun a b => funext fun i => i.elim0⟩
  have e := Host.reduce_andi_all _ _ _ _ ix0 (congrFun h ix0) (ix1 r)
  refine id_of_bits _ (Eq.trans ?_ e)
  symm
  pointwise

end Cert.Pre_in_range.Val

end
-- ==== Proof.Equal.lean ====
/- The two programs' results are the same arrays, when every row is in one of the sixty-four clusters. -/
module

public import proofs.«01_k».proof.Proof.KVal
public import proofs.«01_k».proof.Proof.RScale
public import proofs.«01_k».proof.Proof.Pre

@[expose] public section

set_option maxRecDepth 16384

noncomputable section

namespace Cert.Equal

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- The quantized activations. -/
theorem quantized (h : Cert.Pre_in_range.fn (F := Ideal) (m ((c.tc : Thread nD τ).loc main_arg0)) (m ((c.tc : Thread nD τ).loc main_arg1))
      = fun _ => 1#1) :
    Cert.ReferenceIdeal.Read.val_main_v59 (F := Ideal) (m ((c.tc : Thread nD τ).loc main_arg0)) (m ((c.tc : Thread nD τ).loc main_arg1))
      = W5 (F := Ideal) m ρ c main_v0_0 := by
  funext i
  have hi : i = ix2 (i 0) (i 1) := by
    funext a
    match a with
    | ⟨0, _⟩ => rfl
    | ⟨1, _⟩ => rfl
  obtain ⟨k, hk⟩ := Cert.Pre_in_range.Val.ids _ _ h (i 0)
  refine (congrArg _ hi).trans (Eq.trans ?_ (congrArg _ hi).symm)
  exact (Cert.ReferenceIdeal.Val.v59_apply _ _ (i 0) (i 1) k hk).trans (Cert.KernelIdeal.Arr.result0 m ρ c (i 0) (i 1) k hk).symm

/-- The scales. -/
theorem scales :
    Cert.ReferenceIdeal.Read.val_main_v45 (F := Ideal) (m ((c.tc : Thread nD τ).loc main_arg0)) (m ((c.tc : Thread nD τ).loc main_arg1))
      = W5 (F := Ideal) m ρ c main_v0_1 := by
  funext i
  have hi : i = ix1 (i 0) := by
    funext a
    match a with
    | ⟨0, _⟩ => rfl
  refine (congrArg _ hi).trans (Eq.trans ?_ (congrArg _ hi).symm)
  exact (Cert.ReferenceIdeal.Val.scale_apply _ _ (i 0)).trans (Cert.KernelIdeal.Arr.result1 m ρ c (i 0)).symm

end Cert.Equal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.KRun
public import proofs.«01_k».proof.Proof.Equal
public import Idealize.ShloMosaic.Lib.Quiescent

@[expose] public section

noncomputable section

namespace Cert.Proof

open Idealize.ShloMosaic Idealize.SL.Sem Cert.Kernel

/-- The reference changes neither argument and has no semaphore. -/
theorem reference_frame : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- From equal arguments both programs end with the kernel's two results. -/
theorem results : Cert.algebraic_KernelIdeal_ReferenceIdeal_pre_in_range := by
  intro m g m' g' hpre hargs
  refine ⟨fun c => Cert.KernelIdeal.Gen.W5 (F := Ideal) m g c (Proc.devRef .tc Cert.KernelIdeal.main_v0_0),
    fun c => Cert.KernelIdeal.Gen.W5 (F := Ideal) m g c (Proc.devRef .tc Cert.KernelIdeal.main_v0_1), Cert.KernelIdeal.Val.run (F := Ideal) m g, ?_⟩
  refine (θ_run Cert.ReferenceIdeal.defs _ _).mono (fun r h c => ⟨?_, ?_, (h c).2.2.1, (h c).2.2.2⟩)
    (Cert.ReferenceIdeal.Value.run (F := Ideal) m' g')
  · refine (h c).1.trans ((Cert.ReferenceIdeal.Read.val_main_v59_eq m' c).trans ?_)
    rw [(hargs c).1, (hargs c).2]
    exact Cert.Equal.quantized m g c (hpre c)
  · refine (h c).2.1.trans ((Cert.ReferenceIdeal.Read.val_main_v45_eq m' c).trans ?_)
    rw [(hargs c).1, (hargs c).2]
    exact Cert.Equal.scales m g c

theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  results⟩

end Cert.Proof

end
